-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S4096x200 : Shape := ⟨2, ![4096, 200]⟩
abbrev S4096 : Shape := ⟨1, ![4096]⟩
abbrev S6x128 : Shape := ⟨2, ![6, 128]⟩
abbrev S170x128 : Shape := ⟨2, ![170, 128]⟩
abbrev S128 : Shape := ⟨1, ![128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : IVec S4096x200 32) (main_arg1 : IVec S4096 32) (main_arg2 : FVec F S6x128 .f32) (main_arg3 : FVec F S170x128 .f32) (main_arg4 : FVec F S128 .f32) (main_arg5 : FVec F S128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 6#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg1 main_v6
  let main_c_3 : IVec S_ 32 := constantI S_ 32 170#32
  let main_v8 : IVec S4096 32 := broadcastInDim S4096 ![] bcast_S_S4096 main_c_3
  let main_v9 : IVec S4096 1 := cmpi .slt main_arg1 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  main_v12
-- ==== Kernel.lean ====
abbrev S4096x200 : Shape := ⟨2, ![4096, 200]⟩
abbrev S4096 : Shape := ⟨1, ![4096]⟩
abbrev S6x128 : Shape := ⟨2, ![6, 128]⟩
abbrev S170x128 : Shape := ⟨2, ![170, 128]⟩
abbrev S128 : Shape := ⟨1, ![128]⟩
abbrev S200x128 : Shape := ⟨2, ![200, 128]⟩
abbrev S1x200x128 : Shape := ⟨3, ![1, 200, 128]⟩
abbrev S1x128 : Shape := ⟨2, ![1, 128]⟩
abbrev S2x128 : Shape := ⟨2, ![2, 128]⟩
abbrev S4096x1 : Shape := ⟨2, ![4096, 1]⟩
abbrev S4096x200x1 : Shape := ⟨3, ![4096, 200, 1]⟩
abbrev S4096x128 : Shape := ⟨2, ![4096, 128]⟩
abbrev S4096x1x128 : Shape := ⟨3, ![4096, 1, 128]⟩
abbrev S4096x200x128 : Shape := ⟨3, ![4096, 200, 128]⟩
abbrev S4096x170 : Shape := ⟨2, ![4096, 170]⟩
abbrev S64x200x1 : Shape := ⟨3, ![64, 200, 1]⟩
abbrev S64x1x128 : Shape := ⟨3, ![64, 1, 128]⟩
abbrev S64x200x128 : Shape := ⟨3, ![64, 200, 128]⟩
abbrev S1x1x128 : Shape := ⟨3, ![1, 1, 128]⟩
abbrev S64x200 : Shape := ⟨2, ![64, 200]⟩

abbrev nBuf : Space → Nat
  | .hbm => 16
  | .vmem => 12
  | .smem => 0
  | _ => 0

abbrev bufTy : (tb : Table) → Fin (tcTables nBuf tb) → BufTy
  | .hbm, ⟨0, _⟩ => ⟨S4096x200, .i32⟩
  | .hbm, ⟨1, _⟩ => ⟨S4096, .i32⟩
  | .hbm, ⟨2, _⟩ => ⟨S6x128, .f32⟩
  | .hbm, ⟨3, _⟩ => ⟨S170x128, .f32⟩
  | .hbm, ⟨4, _⟩ => ⟨S128, .f32⟩
  | .hbm, ⟨5, _⟩ => ⟨S128, .f32⟩
  | .hbm, ⟨6, _⟩ => ⟨S200x128, .f32⟩
  | .hbm, ⟨7, _⟩ => ⟨S1x200x128, .f32⟩
  | .hbm, ⟨8, _⟩ => ⟨S1x128, .f32⟩
  | .hbm, ⟨9, _⟩ => ⟨S1x128, .f32⟩
  | .hbm, ⟨10, _⟩ => ⟨S2x128, .f32⟩
  | .hbm, ⟨11, _⟩ => ⟨S4096x1, .i32⟩
  | .hbm, ⟨12, _⟩ => ⟨S4096x200x1, .i32⟩
  | .hbm, ⟨13, _⟩ => ⟨S4096x128, .f32⟩
  | .hbm, ⟨14, _⟩ => ⟨S4096x1x128, .f32⟩
  | .hbm, ⟨15, _⟩ => ⟨S4096x200x128, .f32⟩
  | .local _ .vmem, ⟨0, _⟩ => ⟨S4096x1, .i32⟩
  | .local _ .vmem, ⟨1, _⟩ => ⟨S170x128, .f32⟩
  | .local _ .vmem, ⟨2, _⟩ => ⟨S4096x128, .f32⟩
  | .local _ .vmem, ⟨3, _⟩ => ⟨S64x200x1, .i32⟩
  | .local _ .vmem, ⟨4, _⟩ => ⟨S64x200x1, .i32⟩
  | .local _ .vmem, ⟨5, _⟩ => ⟨S64x1x128, .f32⟩
  | .local _ .vmem, ⟨6, _⟩ => ⟨S64x1x128, .f32⟩
  | .local _ .vmem, ⟨7, _⟩ => ⟨S6x128, .f32⟩
  | .local _ .vmem, ⟨8, _⟩ => ⟨S1x200x128, .f32⟩
  | .local _ .vmem, ⟨9, _⟩ => ⟨S2x128, .f32⟩
  | .local _ .vmem, ⟨10, _⟩ => ⟨S64x200x128, .f32⟩
  | .local _ .vmem, ⟨11, _⟩ => ⟨S64x200x128, .f32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_v0 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := .none

abbrev stage0_0 : Fin 1 → Memref sig .tc .vmem S4096x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S170x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x200x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S6x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x200x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S64x200x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S4096x200 : Shape := ⟨2, ![4096, 200]⟩
abbrev S4096 : Shape := ⟨1, ![4096]⟩
abbrev S6x128 : Shape := ⟨2, ![6, 128]⟩
abbrev S170x128 : Shape := ⟨2, ![170, 128]⟩
abbrev S128 : Shape := ⟨1, ![128]⟩
abbrev S200x128 : Shape := ⟨2, ![200, 128]⟩
abbrev S1x200x128 : Shape := ⟨3, ![1, 200, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S4096x1 : Shape := ⟨2, ![4096, 1]⟩
abbrev S1x1 : Shape := ⟨2, ![1, 1]⟩
abbrev S4096x128 : Shape := ⟨2, ![4096, 128]⟩
abbrev S4096x1x128 : Shape := ⟨3, ![4096, 1, 128]⟩
abbrev S1x1x128 : Shape := ⟨3, ![1, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096, .i32⟩
  | .hbm, ⟨2, _⟩ => ⟨S6x128, .f32⟩
  | .hbm, ⟨3, _⟩ => ⟨S170x128, .f32⟩
  | .hbm, ⟨4, _⟩ => ⟨S128, .f32⟩
  | .hbm, ⟨5, _⟩ => ⟨S128, .f32⟩
  | .hbm, ⟨6, _⟩ => ⟨S200x128, .f32⟩
  | .hbm, ⟨7, _⟩ => ⟨S1x200x128, .f32⟩
  | .hbm, ⟨8, _⟩ => ⟨S_, .i32⟩
  | .hbm, ⟨9, _⟩ => ⟨S4096x200, .i32⟩
  | .hbm, ⟨10, _⟩ => ⟨S4096x200, .i1⟩
  | .hbm, ⟨11, _⟩ => ⟨S_, .i32⟩
  | .hbm, ⟨12, _⟩ => ⟨S4096x200, .i32⟩
  | .hbm, ⟨13, _⟩ => ⟨S4096x200, .i32⟩
  | .hbm, ⟨14, _⟩ => ⟨S4096x200, .i32⟩
  | .hbm, ⟨15, _⟩ => ⟨S4096x200x1, .i32⟩
  | .hbm, ⟨16, _⟩ => ⟨S1, .i32⟩
  | .hbm, ⟨17, _⟩ => ⟨S_, .i32⟩
  | .hbm, ⟨18, _⟩ => ⟨S4096x200x1, .i32⟩
  | .hbm, ⟨19, _⟩ => ⟨S4096x200x1, .i1⟩
  | .hbm, ⟨20, _⟩ => ⟨S1x1x1, .i32⟩
  | .hbm, ⟨21, _⟩ => ⟨S4096x200x1, .i32⟩
  | .hbm, ⟨22, _⟩ => ⟨S4096x200x1, .i1⟩
  | .hbm, ⟨23, _⟩ => ⟨S4096x200x1, .i1⟩
  | .hbm, ⟨24, _⟩ => ⟨S_, .i1⟩
  | .hbm, ⟨25, _⟩ => ⟨S4096x200, .i1⟩
  | .hbm, ⟨26, _⟩ => ⟨S4096x200x128, .f32⟩
  | .hbm, ⟨27, _⟩ => ⟨S4096x200x128, .i1⟩
  | .hbm, ⟨28, _⟩ => ⟨S_, .f32⟩
  | .hbm, ⟨29, _⟩ => ⟨S4096x200x128, .f32⟩
  | .hbm, ⟨30, _⟩ => ⟨S4096x200x128, .f32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S4096x1, .i32⟩
  | .hbm, ⟨39, _⟩ => ⟨S1, .i32⟩
  | .hbm, ⟨40, _⟩ => ⟨S_, .i32⟩
  | .hbm, ⟨41, _⟩ => ⟨S4096x1, .i32⟩
  | .hbm, ⟨42, _⟩ => ⟨S4096x1, .i1⟩
  | .hbm, ⟨43, _⟩ => ⟨S1x1, .i32⟩
  | .hbm, ⟨44, _⟩ => ⟨S4096x1, .i32⟩
  | .hbm, ⟨45, _⟩ => ⟨S4096x1, .i1⟩
  | .hbm, ⟨46, _⟩ => ⟨S4096x1, .i1⟩
  | .hbm, ⟨47, _⟩ => ⟨S_, .i1⟩
  | .hbm, ⟨48, _⟩ => ⟨S4096, .i1⟩
  | .hbm, ⟨49, _⟩ => ⟨S4096x128, .f32⟩
  | .hbm, ⟨50, _⟩ => ⟨S4096x128, .i1⟩
  | .hbm, ⟨51, _⟩ => ⟨S_, .f32⟩
  | .hbm, ⟨52, _⟩ => ⟨S4096x128, .f32⟩
  | .hbm, ⟨53, _⟩ => ⟨S4096x128, .f32⟩
  | .hbm, ⟨54, _⟩ => ⟨S4096x1x128, .f32⟩
  | .hbm, ⟨55, _⟩ => ⟨S4096x200x128, .f32⟩
  | .hbm, ⟨56, _⟩ => ⟨S4096x200x128, .f32⟩
  | .hbm, ⟨57, _⟩ => ⟨S4096x200x128, .f32⟩
  | .hbm, ⟨58, _⟩ => ⟨S4096x200x128, .f32⟩
  | .hbm, ⟨59, _⟩ => ⟨S_, .f32⟩
  | .hbm, ⟨60, _⟩ => ⟨S4096x200, .f32⟩
  | .hbm, ⟨61, _⟩ => ⟨S4096x200x1, .f32⟩
  | .hbm, ⟨62, _⟩ => ⟨S_, .f32⟩
  | .hbm, ⟨63, _⟩ => ⟨S4096x200x1, .f32⟩
  | .hbm, ⟨64, _⟩ => ⟨S4096x200x1, .f32⟩
  | .hbm, ⟨65, _⟩ => ⟨S4096x200x128, .f32⟩
  | .hbm, ⟨66, _⟩ => ⟨S4096x200x128, .f32⟩
  | .hbm, ⟨67, _⟩ => ⟨S4096x200x128, .f32⟩
  | .hbm, ⟨68, _⟩ => ⟨S_, .f32⟩
  | .hbm, ⟨69, _⟩ => ⟨S4096x200, .f32⟩
  | .hbm, ⟨70, _⟩ => ⟨S4096x200x1, .f32⟩
  | .hbm, ⟨71, _⟩ => ⟨S_, .f32⟩
  | .hbm, ⟨72, _⟩ => ⟨S4096x200x1, .f32⟩
  | .hbm, ⟨73, _⟩ => ⟨S4096x200x1, .f32⟩
  | .hbm, ⟨74, _⟩ => ⟨S4096x200x128, .f32⟩
  | .hbm, ⟨75, _⟩ => ⟨S4096x200x128, .f32⟩
  | .hbm, ⟨76, _⟩ => ⟨S_, .f32⟩
  | .hbm, ⟨77, _⟩ => ⟨S4096x200x1, .f32⟩
  | .hbm, ⟨78, _⟩ => ⟨S4096x200x1, .f32⟩
  | .hbm, ⟨79, _⟩ => ⟨S4096x200x1, .f32⟩
  | .hbm, ⟨80, _⟩ => ⟨S4096x200x128, .f32⟩
  | .hbm, ⟨81, _⟩ => ⟨S4096x200x128, .f32⟩
  | .hbm, ⟨82, _⟩ => ⟨S1x1x128, .f32⟩
  | .hbm, ⟨83, _⟩ => ⟨S4096x200x128, .f32⟩
  | .hbm, ⟨84, _⟩ => ⟨S4096x200x128, .f32⟩
  | .hbm, ⟨85, _⟩ => ⟨S1x1x128, .f32⟩
  | .hbm, ⟨86, _⟩ => ⟨S4096x200x128, .f32⟩
  | .hbm, ⟨87, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_0 : Ref sig .tc := ⟨.hbm, 59, rfl⟩
abbrev main_v8 : Ref sig .tc := ⟨.hbm, 60, rfl⟩
abbrev main_v9 : Ref sig .tc := ⟨.hbm, 61, rfl⟩
abbrev main_cst_1 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_cst_2 : Ref sig .tc := ⟨.hbm, 68, rfl⟩
abbrev main_v15 : Ref sig .tc := ⟨.hbm, 69, rfl⟩
abbrev main_v16 : Ref sig .tc := ⟨.hbm, 70, rfl⟩
abbrev main_cst_3 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_cst_4 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩

abbrev nD : Nat := 1
abbrev τ : Topo := Topo.v7x

variable {F : FTy → Type} [FloatOps F]
-- ==== Proof.KernelRun.lean ====
/-
  The kernel's run, with every buffer's final contents kept: the two calls and the host operations around them, composed.
-/
module

public import proofs.«01_k».proof.Proof.Gen.KernelIdeal.Frame

@[expose] public section

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch resource is the regions' own. -/
theorem launch_split : (ownU (initOf (Pipeline.cells cfgs cellOf_inj) (Pipeline.launchToks cfgs cellOf_inj)) : sProp 𝕄)
    ⊢ iprop(BI.own (emb₁ (initOf (Pipeline.cells cfgs cellOf_inj) (Pipeline.launchToks cfgs cellOf_inj)))
        ∗ bigSep Finset.univ (fun _ : Dev nD => (BI.emp : sProp 𝕄))) := by
  rw [BI.bigSep_emp_const]
  iintro H
  isplitl [H]
  · iapply (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl)
    iexact H
  · iempintro

set_option backward.isDefEq.respectTransparency.types false in
/-- From any memory with zero counters the run ends with every buffer that outlives the calls at the last boundary's
    contents. -/
theorem contents : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      iapply (launch_split (F := F))
      iexact H)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hown, -, Hreg, -⟩, -⟩
      imodintro
      isplitl [Hbufs]; · iexact Hbufs
      isplitl [Hreg]; · iexists _; iexact Hreg
      iexists ∅; iexact Hown)
    (QY := fun c s => ∀ b ∈ Pipeline.ucRefs τ sig, s.mem (((c : Thread nD τ)).1, b) = W4 m ρ c b)
    (hfin := fun c s' => by
      iintro ⟨⟨Hbufs, -⟩, Hst⟩
      unfold StableHlo.held
      imodintro
      iapply (pointsTo_read_all (Pipeline.ucRefs τ sig) (fun b => (((c : Thread nD τ)).1, b)) (W4 m ρ c) s')
      isplitl [Hbufs] <;> iassumption)
    (hQ := fun _ h => h)

/-- The run, read at the result array and the six arguments: the result is what the embedding call leaves, the arguments
    are unchanged. -/
theorem run : θ_run defs (onTc (τ := τ) (main (F := F))) ⟨m, fun _ => 0, ρ⟩ (fun r => ∀ c : Dev nD,
      r.2.mem ((c.tc : Thread nD τ).loc main_v0) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v0 (by decide))).trans (W4_arr m ρ c 5),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c)⟩) (contents m ρ)

end Cert.Proof.KernelRun

end
-- ==== Proof.Algebra.lean ====
/-
  Extended-real and word facts the certificate needs, with no program in sight: a sum over a one-hot row picks one entry;
  adding six selects of which one is live adds one row; the layer norm written with a reciprocal square root is the layer
  norm written as a quotient by a square root, because the quantity under the root is positive.
-/
module

public import Idealize.ShloMosaic.Lib.Pointwise
public import Idealize.ShloMosaic.PureOps.Ideal.Laws

@[expose] public section

noncomputable section

namespace Cert.Proof.Algebra

open Idealize.ShloMosaic

/-! ## Signs -/

/-- A square is at least zero, infinities included. -/
theorem square_nonneg (x : EReal) : 0 ≤ x * x := by
  induction x using EReal.rec with
  | bot => simp
  | top => simp
  | coe r => rw [← EReal.coe_mul]; exact EReal.coe_nonneg.2 (mul_self_nonneg r)

/-- A single-precision pattern with a clear sign bit and an exponent field neither all zeros nor all ones is positive. -/
theorem normal_pos (b : BitVec 32) (hs : (b.extractLsb' (8 + 23) 1 == 1#1) = false)
    (h1 : (b.extractLsb' 23 8).toNat ≠ 2 ^ 8 - 1) (h0 : (b.extractLsb' 23 8).toNat ≠ 0) : 0 < Ideal.ofBits .f32 b := by
  show 0 < Ideal.ieee 8 23 b
  unfold Ideal.ieee
  simp only [if_neg h1, if_neg h0, hs]
  exact EReal.coe_pos.2 (by simp only [Bool.false_eq_true, if_false, one_mul]; positivity)

/-- The pattern the programs add under the root denotes a positive real. -/
theorem eps_pos : 0 < Ideal.ofBits .f32 0x2B8CBCCC#32 := normal_pos _ (by decide) (by decide) (by decide)

/-- The pattern of the row length denotes a positive real. -/
theorem len_pos : 0 < Ideal.ofBits .f32 0x43000000#32 := normal_pos _ (by decide) (by decide) (by decide)

/-- A quotient of a value at least zero by a positive one is at least zero. -/
theorem div_nonneg_of_pos {x y : EReal} (hx : 0 ≤ x) (hy : 0 < y) : 0 ≤ Ideal.div x y := by
  unfold Ideal.div
  rw [if_neg hy.ne']
  exact mul_nonneg hx (EReal.inv_nonneg_of_nonneg hy.le)

/-- Dividing by the square root of a positive value is multiplying by its reciprocal square root: at `⊤` both are a
    product with zero. -/
theorem div_sqrt {y : EReal} (x : EReal) (hy : 0 < y) : Ideal.div x (Ideal.sqrt y) = x * Ideal.rsqrt y := by
  induction y using EReal.rec with
  | bot => simp at hy
  | top =>
    show Ideal.div x ⊤ = x * 0
    simp [Ideal.div]
  | coe r =>
    have hr : 0 < r := EReal.coe_pos.1 hy
    have hs : 0 < Real.sqrt r := Real.sqrt_pos.2 hr
    have e1 : Ideal.sqrt (r : EReal) = ((Real.sqrt r : ℝ) : EReal) := if_neg hr.not_gt
    have e2 : Ideal.rsqrt (r : EReal) = (((Real.sqrt r)⁻¹ : ℝ) : EReal) := (if_neg hr.not_gt).trans (if_neg hr.ne')
    rw [e1, e2, EReal.coe_inv]
    exact if_neg (EReal.coe_pos.2 hs).ne'

/-! ## The layer norm of one row -/

variable {n : Nat}

/-- The mean of a row. -/
def mean (x : Fin n → EReal) : EReal := Ideal.div (∑ k, x k) (Ideal.ofBits .f32 0x43000000#32)

/-- What stands under the root: the mean of the squared differences from the mean, and the small constant. -/
def spread (x : Fin n → EReal) : EReal :=
  Ideal.div (∑ k, (x k - mean x) * (x k - mean x)) (Ideal.ofBits .f32 0x43000000#32) + Ideal.ofBits .f32 0x2B8CBCCC#32

/-- One entry of the normed row, as the kernel computes it. -/
def layer (x : Fin n → EReal) (g b : EReal) (l : Fin n) : EReal :=
  (x l - mean x) * Ideal.rsqrt (spread x) * g + b

/-- What stands under the root is positive. -/
theorem spread_pos (x : Fin n → EReal) : 0 < spread x :=
  lt_of_lt_of_le eps_pos (le_add_of_nonneg_left
    (div_nonneg_of_pos (Finset.sum_nonneg fun _ _ => square_nonneg _) len_pos))

/-- The reference's spelling of an entry, a quotient by the root, is the kernel's. -/
theorem layer_eq_div (x : Fin n → EReal) (g b : EReal) (l : Fin n) :
    Ideal.div (x l - mean x) (Ideal.sqrt (spread x)) * g + b = layer x g b l := by
  unfold layer
  rw [div_sqrt _ (spread_pos x)]

/-! ## Words -/

/-- A word's equality test with a number, as one bit. -/
theorem cmpi_eq_ofNat (w : BitVec 32) (k : Nat) (hk : k < 2 ^ 32) :
    IntOp.cmpi .eq w (BitVec.ofNat 32 k) = if w.toNat = k then 1#1 else 0#1 := by
  have h : (w == BitVec.ofNat 32 k) = decide (w.toNat = k) := by
    rw [Bool.eq_iff_iff, beq_iff_eq, decide_eq_true_iff]
    constructor
    · rintro rfl; simpa using hk
    · rintro rfl; simp
  simp only [IntOp.cmpi, h]
  by_cases hw : w.toNat = k <;> simp [hw]

/-- The test bit, widened and converted, is the real one or zero. -/
theorem onehot_entry (w : BitVec 32) (k : Nat) (hk : k < 2 ^ 32) :
    (FloatOps.sitofp .f32 ((IntOp.cmpi .eq w (BitVec.ofNat 32 k)).setWidth 32) : Ideal .f32)
      = if w.toNat = k then 1 else 0 := by
  rw [cmpi_eq_ofNat w k hk]
  by_cases hw : w.toNat = k
  · rw [if_pos hw, if_pos hw]
    show (((1#32 : BitVec 32).toInt : ℝ) : EReal) = 1
    norm_num
  · rw [if_neg hw, if_neg hw]
    show (((0#32 : BitVec 32).toInt : ℝ) : EReal) = 0
    norm_num

/-- A sum of products with a one-hot row is the entry at the row's one. -/
theorem onehot_sum {N : Nat} (hN : N < 2 ^ 32) (w : BitVec 32) (hw : w.toNat < N) (T : Fin N → EReal) :
    ∑ k : Fin N, (FloatOps.sitofp .f32 ((IntOp.cmpi .eq w (BitVec.ofNat 32 k.val)).setWidth 32) : Ideal .f32) * T k
      = T ⟨w.toNat, hw⟩ := by
  rw [Finset.sum_eq_single (⟨w.toNat, hw⟩ : Fin N)]
  · rw [onehot_entry w _ (by simpa using hw.trans hN)]; simp
  · intro k _ hk
    rw [onehot_entry w _ (k.isLt.trans hN), if_neg fun e => hk (Fin.ext e.symm), zero_mul]
  · intro h; exact absurd (Finset.mem_univ _) h

/-- A select on a test against a number: the value where the word is that number, else zero. -/
theorem select_ofNat (w : BitVec 32) (k : Nat) (hk : k < 2 ^ 32) (r : EReal) :
    Scalar.select (IntOp.cmpi .eq w (BitVec.ofNat 32 k)) r 0 = if w.toNat = k then r else 0 := by
  rw [cmpi_eq_ofNat w k hk]
  by_cases hw : w.toNat = k <;> simp [hw, Scalar.select]

/-- Adding the six selects, one per row of the table, adds the row the word names. -/
theorem six_selects (w : BitVec 32) (hw : w.toNat < 6) (T : Fin 6 → EReal) (x : EReal) :
    x + Scalar.select (IntOp.cmpi .eq w 0#32) (T 0) 0 + Scalar.select (IntOp.cmpi .eq w 1#32) (T 1) 0
        + Scalar.select (IntOp.cmpi .eq w 2#32) (T 2) 0 + Scalar.select (IntOp.cmpi .eq w 3#32) (T 3) 0
        + Scalar.select (IntOp.cmpi .eq w 4#32) (T 4) 0 + Scalar.select (IntOp.cmpi .eq w 5#32) (T 5) 0
      = x + T ⟨w.toNat, hw⟩ := by
  have key (k : Nat) (hk : k < 2 ^ 32) (r : EReal) := select_ofNat w k hk r
  rw [key 0 (by norm_num), key 1 (by norm_num), key 2 (by norm_num), key 3 (by norm_num), key 4 (by norm_num), key 5 (by norm_num)]
  generalize w.toNat = v at hw
  interval_cases v <;> simp <;> rfl

end Cert.Proof.Algebra

end
-- ==== Proof.CatArray.lean ====
/-
  What the category call leaves in its result array: row `b` is the category table's row of the id at `b`. Its body is one
  product of a one-hot matrix with the table, over the whole arrays at once.
-/
module

public import proofs.«01_k».proof.Proof.Gen.KernelIdeal.Frame
public import proofs.«01_k».proof.Proof.Algebra
public import Idealize.ShloMosaic.Lib.Pipeline.ValueKit.Geometry
public import Idealize.ShloMosaic.Lib.Pipeline.ValueKit.Acc

@[expose] public section

noncomputable section

namespace Cert.Proof.CatArray

open Idealize.ShloMosaic Idealize.ShloMosaic.TcCoe Idealize.SL.Sem Cert.KernelIdeal Cert.KernelIdeal.Gen

/-- The body's product at `(b, l)`: the table's row of the id at `b`, when that id is below 170. -/
theorem product_at (v : Vec Ideal S4096x1 .i32) (T : Vec Ideal S170x128 .f32) (b : Fin 4096) (l : Fin 128)
    (hw : (v (ix2 b 0) : BitVec 32).toNat < 170) :
    k0_pay1 v T (ix2 b l) = T (ix2 ⟨(v (ix2 b 0) : BitVec 32).toNat, hw⟩ l) := by
  rw [← Algebra.onehot_sum (N := 170) (by norm_num) _ hw (fun k => T (ix2 k l))]
  pointwise [k0_pay1]

theorem zero2 : (![0, 0] : Fin 2 → Nat) = fun _ => 0 := by decide

variable (V : (c : Dev nD) → (b : Ref sig .tc) → Buf (Elt Ideal) ((c : Thread nD τ).loc b)) (c : Dev nD)

/-- The id window's block is the whole array of ids. -/
theorem ids_block (t : Fin cfg0.N) : iblk0 V c 0 t = V c main_call0_v4 := by
  funext x
  blk_simp [iblk0]
  refine congrArg (V c main_call0_v4) ?_
  have e : ∀ t : Fin cfg0.N, win0_0.index t = ![0, 0] := by decide +kernel
  blk_ext [e]

/-- The table window's block is the whole table. -/
theorem table_block (t : Fin cfg0.N) : iblk0 V c 1 t = V c main_arg3 := by
  funext x
  blk_simp [iblk0]
  refine congrArg (V c main_arg3) ?_
  have e : ∀ t : Fin cfg0.N, win0_1.index t = ![0, 0] := by decide +kernel
  blk_ext [e]

/-- What the call's result array is shown to hold: at `(b, l)`, the table's row of the id at `b`, at column `l`. -/
def rows (hw : ∀ i, ((V c main_call0_v4 : IVec S4096x1 32) i).toNat < 170) : FVec Ideal S4096x128 .f32 := fun i =>
  (V c main_arg3 : FVec Ideal S170x128 .f32) (ix2 ⟨((V c main_call0_v4 : IVec S4096x1 32) (ix2 (i 0) 0)).toNat, hw _⟩ (i 1))

/-- The call's result array after the run. -/
theorem array_at (hw : ∀ i, ((V c main_call0_v4 : IVec S4096x1 32) i).toNat < 170) :
    (dat0 V c).arrAt 2 cfg0.N = rows V c hw := by
  refine (dat0 V c).arrAt_eq_of_covers 2 _ (by decide +kernel) fun t hf y => ?_
  have e : ∀ t : Fin cfg0.N, win0_2.index t = ![0, 0] := by decide +kernel
  have hy : (win0_2.blk t).view.emb y = y := by blk_ext [e]
  blk_simp
  rw [after0_2]
  frame_out
  rw [ids_block, table_block]
  refine Eq.trans ?_ (congrArg (rows V c hw) hy.symm)
  obtain ⟨b, l, rfl⟩ : ∃ (b : Fin 4096) (l : Fin 128), y = ix2 b l := ⟨_, _, (ix2_eta (n0 := 4096) (n1 := 128) y).symm⟩
  exact product_at _ _ b l (hw _)

end Cert.Proof.CatArray

end
-- ==== Proof.EmbedBlock.lean ====
/-
  What the embedding call's body computes on one block of 64 batch rows: each entry is the layer norm, over the 128
  columns, of the vocabulary row of its id plus the category row plus the position row.
-/
module

public import proofs.«01_k».proof.Proof.Gen.KernelIdeal.Frame
public import Idealize.ShloMosaic.Lib.Pipeline.ValueKit.Tiles
public import proofs.«01_k».proof.Proof.Algebra

@[expose] public section

noncomputable section

namespace Cert.Proof.EmbedBlock

open Idealize.ShloMosaic Cert.KernelIdeal Cert.KernelIdeal.Gen

variable (x0 : Vec Ideal S64x200x1 .i32) (x1 : Vec Ideal S64x1x128 .f32) (x3 : Vec Ideal S1x200x128 .f32)

/-- The body's sum before the norm, from the six rows of the vocabulary table it loads. -/
def sum (r0 r1 r2 r3 r4 r5 : Vec Ideal S1x128 .f32) : FVec Ideal S64x200x128 .f32 :=
  k1_pay6 (k1_pay2 x0) (k1_pay3 x0 x1 x3 r0 r1) (k1_pay4 r2) (k1_pay5 (F := Ideal) x0) (Scalar.ofBits .f32 0x00000000#32) r3 r4 r5

/-- The sum at `(b, t, l)`, when the six rows are those of a table `T` and every id is below 6: one select is live. -/
theorem sum_at (T : Fin 6 → Fin 128 → EReal) (r0 r1 r2 r3 r4 r5 : Vec Ideal S1x128 .f32)
    (h0 : ∀ l, r0 (ix2 0 l) = T 0 l) (h1 : ∀ l, r1 (ix2 0 l) = T 1 l) (h2 : ∀ l, r2 (ix2 0 l) = T 2 l)
    (h3 : ∀ l, r3 (ix2 0 l) = T 3 l) (h4 : ∀ l, r4 (ix2 0 l) = T 4 l) (h5 : ∀ l, r5 (ix2 0 l) = T 5 l)
    (b : Fin 64) (t : Fin 200) (l : Fin 128) (hw : (x0 (ix3 b t 0) : BitVec 32).toNat < 6) :
    sum x0 x1 x3 r0 r1 r2 r3 r4 r5 (ix3 b t l)
      = (x1 (ix3 b 0 l) : EReal) + x3 (ix3 0 t l) + T ⟨(x0 (ix3 b t 0) : BitVec 32).toNat, hw⟩ l := by
  rw [← Algebra.six_selects _ hw (fun v => T v l)]
  pointwise [sum, k1_pay6, k1_pay5, k1_pay4, k1_pay3, k1_pay2]
  rw [h0, h1, h2, h3, h4, h5]

/-- The body's sums along the columns, kept as an axis of length 1. -/
def rowSums (y : FVec Ideal S64x200x128 .f32) : FVec Ideal S64x200x1 .f32 :=
  shapeCast S64x200x1 (multiReduction .add [2] S64x200 y 0x00000000#32 reduces_S64x200x128_S64x200 (.inl rfl) rfl)
    shapeCasts_S64x200_S64x200x1

/-- The body's norm of a sum `y`, with the scale row and the shift row it loads. -/
def norm (y : FVec Ideal S64x200x128 .f32) (g h : Vec Ideal S1x128 .f32) : FVec Ideal S64x200x128 .f32 :=
  k1_pay1 y (rowSums y) k1_pay8 g h

/-- The norm at `(b, t, l)`. -/
theorem norm_at (y : FVec Ideal S64x200x128 .f32) (g h : Vec Ideal S1x128 .f32) (b : Fin 64) (t : Fin 200) (l : Fin 128) :
    norm y g h (ix3 b t l)
      = Algebra.layer (fun k : Fin 128 => y (ix3 b t k)) (g (ix2 0 l)) (h (ix2 0 l)) l := by
  unfold Algebra.layer Algebra.spread Algebra.mean
  pointwise [norm, rowSums, k1_pay1, k1_pay8]

/-- A load of one row of a table reads that row. -/
theorem ld_row {N : Nat} (X : (⟨2, ![N, 128]⟩ : Shape).Idx → EReal) (r : Fin N)
    (inb : ∀ a, (![r.val, 0] : Fin 2 → Nat) a + (![1, 128] : Fin 2 → Nat) a ≤ (⟨2, ![N, 128]⟩ : Shape).size a) (l : Fin 128) :
    View.ld (Val := Elt Ideal) (e' := .f32) X (Rect.unit (s := ⟨2, ![N, 128]⟩) ![r.val, 0] ![1, 128] inb) (ix2 0 l)
      = X (ix2 r l) := by
  refine View.ld_unit_apply_of (Val := Elt Ideal) (e := .f32) (S := ⟨2, ![N, 128]⟩) X ![r.val, 0] ![1, 128] inb (ix2 0 l) (ix2 r l) fun a => ?_
  match a with
  | ⟨0, _⟩ => rfl
  | ⟨1, _⟩ => exact (Nat.zero_add _).symm

theorem zero2 : (![0, 0] : Fin 2 → Nat) = fun _ => 0 := by decide
theorem zero3 : (![0, 0, 0] : Fin 3 → Nat) = fun _ => 0 := by decide

/-- The block the body leaves, at `(b, t, l)`, from the five blocks it reads, when every id is below 6. -/
theorem out_at (x2 : Vec Ideal S6x128 .f32) (x4 : Vec Ideal S2x128 .f32) (b : Fin 64) (t : Fin 200) (l : Fin 128)
    (hw : (x0 (ix3 b t 0) : BitVec 32).toNat < 6) :
    out1_5 x0 x1 x2 x3 x4 (ix3 b t l)
      = Algebra.layer (fun k : Fin 128 => (x1 (ix3 b 0 k) : EReal) + x3 (ix3 0 t k)
          + x2 (ix2 ⟨(x0 (ix3 b t 0) : BitVec 32).toNat, hw⟩ k)) (x4 (ix2 0 l)) (x4 (ix2 1 l)) l := by
  unfold_out out1_5
  rw [View.canon_unit_zero zero3, View.ld_unit_zero zero3, View.ld_unit_zero zero3, View.ld_unit_zero zero3]
  refine (norm_at (sum x0 x1 x3 (View.ld x2 r1_3) (View.ld x2 r1_4) (View.ld x2 r1_5) (View.ld x2 r1_6) (View.ld x2 r1_7)
    (View.ld x2 r1_8)) (View.ld x4 r1_9) (View.ld x4 r1_10) b t l).trans ?_
  rw [show View.ld x4 r1_9 (ix2 0 l) = _ from ld_row x4 0 _ l, show View.ld x4 r1_10 (ix2 0 l) = _ from ld_row x4 1 _ l]
  congr 1
  funext k
  exact sum_at x0 x1 x3 (fun v l => x2 (ix2 v l)) _ _ _ _ _ _ (ld_row x2 0 _) (ld_row x2 1 _) (ld_row x2 2 _) (ld_row x2 3 _)
    (ld_row x2 4 _) (ld_row x2 5 _) b t k hw

end Cert.Proof.EmbedBlock

end
-- ==== Proof.EmbedArray.lean ====
/-
  What the embedding call leaves in its result array: its 64 blocks of 64 batch rows each hold what the body computes from
  the same rows of the ids and of the category rows, and together they are the whole array.
-/
module

public import proofs.«01_k».proof.Proof.EmbedBlock
public import Idealize.ShloMosaic.Lib.Pipeline.ValueKit.Geometry
public import Idealize.ShloMosaic.Lib.Pipeline.ValueKit.Acc

@[expose] public section

noncomputable section

namespace Cert.Proof.EmbedArray

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b)) (c : Dev nD)

/-! ## The five blocks a point reads -/

/-- Row `b` of point `t`'s block of 64 rows, as a row of the whole array. -/
def at64 (t : Fin cfg1.N) (b : Fin 64) : Fin 4096 := ⟨t.val * 64 + b.val, by have : t.val < 64 := t.isLt; omega⟩

/-- The ids' block at `(b, s)`. -/
theorem ids_block (t : Fin cfg1.N) (b : Fin 64) (s : Fin 200) (z : Fin 1) :
    iblk1 V c 0 t (ix3 b s z) = V c main_call0_v5 (ix3 (at64 t b) s z) := by
  blk_simp [iblk1]
  refine congrArg (V c main_call0_v5) ?_
  have e : ∀ t : Fin cfg1.N, win1_0.index t = ![t.val, 0, 0] := by decide +kernel
  blk_ext [e, at64]

/-- The category rows' block at `(b, k)`. -/
theorem cats_block (t : Fin cfg1.N) (b : Fin 64) (z : Fin 1) (k : Fin 128) :
    iblk1 V c 1 t (ix3 b z k) = V c main_call0_v7 (ix3 (at64 t b) z k) := by
  blk_simp [iblk1]
  refine congrArg (V c main_call0_v7) ?_
  have e : ∀ t : Fin cfg1.N, win1_1.index t = ![t.val, 0, 0] := by decide +kernel
  blk_ext [e, at64]

/-- The vocabulary table's block is the whole table. -/
theorem table_block (t : Fin cfg1.N) : iblk1 V c 2 t = V c main_arg2 := by
  funext x
  blk_simp [iblk1]
  refine congrArg (V c main_arg2) ?_
  have e : ∀ t : Fin cfg1.N, win1_2.index t = ![0, 0] := by decide +kernel
  blk_ext [e]

/-- The position table's block is the whole table. -/
theorem pos_block (t : Fin cfg1.N) : iblk1 V c 3 t = V c main_call0_v0 := by
  funext x
  blk_simp [iblk1]
  refine congrArg (V c main_call0_v0) ?_
  have e : ∀ t : Fin cfg1.N, win1_3.index t = ![0, 0, 0] := by decide +kernel
  blk_ext [e]

/-- The scale and shift rows' block is both rows. -/
theorem rows_block (t : Fin cfg1.N) : iblk1 V c 4 t = V c main_call0_v3 := by
  funext x
  blk_simp [iblk1]
  refine congrArg (V c main_call0_v3) ?_
  have e : ∀ t : Fin cfg1.N, win1_4.index t = ![0, 0] := by decide +kernel
  blk_ext [e]

/-! ## The result array -/

variable (hw : ∀ i, ((V c main_call0_v5 : IVec S4096x200x1 32) i).toNat < 6)

/-- The result at `(b, s, l)`, of the five operands' contents. -/
def entry (ids : IVec S4096x200x1 32) (hw : ∀ i, (ids i).toNat < 6) (cats : FVec Ideal S4096x1x128 .f32)
    (T : FVec Ideal S6x128 .f32) (pos : FVec Ideal S1x200x128 .f32) (gb : FVec Ideal S2x128 .f32) (b : Fin 4096) (s : Fin 200)
    (l : Fin 128) : EReal :=
  Algebra.layer (fun k : Fin 128 => cats (ix3 b 0 k) + pos (ix3 0 s k) + T (ix2 ⟨(ids (ix3 b s 0)).toNat, hw _⟩ k))
    (gb (ix2 0 l)) (gb (ix2 1 l)) l

/-- What the call's result array is shown to hold. -/
def result : FVec Ideal S4096x200x128 .f32 := fun i =>
  entry (V c main_call0_v5) hw (V c main_call0_v7) (V c main_arg2) (V c main_call0_v0) (V c main_call0_v3) (i 0) (i 1) (i 2)

/-- What point `t`'s body leaves at `(b, s, l)` is the result at row `b` of the point's 64 rows. -/
theorem block_at (t : Fin cfg1.N) (b : Fin 64) (s : Fin 200) (l : Fin 128) :
    out1_5 (iblk1 V c 0 t) (iblk1 V c 1 t) (iblk1 V c 2 t) (iblk1 V c 3 t) (iblk1 V c 4 t) (ix3 b s l)
      = result V c hw (ix3 (at64 t b) s l) := by
  rw [table_block, pos_block, rows_block]
  have hb : (iblk1 V c 0 t (ix3 b s 0) : BitVec 32).toNat < 6 := by rw [ids_block]; exact hw _
  refine (EmbedBlock.out_at (iblk1 V c 0 t) (iblk1 V c 1 t) (V c main_call0_v0) (V c main_arg2) (V c main_call0_v3) b s l hb).trans ?_
  unfold result entry
  simp only [ids_block, cats_block]
  rfl

/-- The call's result array after the run. -/
theorem array_eq : (dat1 V c).arrAt 5 cfg1.N = result V c hw := by
  refine (dat1 V c).arrAt_eq_of_covers 5 _ (by decide +kernel) fun t hf y => ?_
  obtain ⟨b, s, l, rfl⟩ : ∃ (b : Fin 64) (s : Fin 200) (l : Fin 128), y = ix3 b s l :=
    ⟨_, _, _, (ix3_eta (n0 := 64) (n1 := 200) (n2 := 128) y).symm⟩
  have e : ∀ t : Fin cfg1.N, win1_5.index t = ![t.val, 0, 0] := by decide +kernel
  have hy : (win1_5.blk t).view.emb (ix3 b s l) = ix3 (at64 t b) s l := by blk_ext [e, at64]
  refine Eq.trans ?_ (congrArg (result V c hw) hy.symm)
  blk_simp
  rw [after1_5]
  exact block_at V c hw t b s l

end Cert.Proof.EmbedArray

end
-- ==== Proof.Entry.lean ====
/-
  The kernel's intermediate arrays, read off the argument arrays: what the host operations before each call leave in the
  call's operands, and the category rows the first call leaves for the second.
-/
module

public import proofs.«01_k».proof.Proof.CatArray
public import proofs.«01_k».proof.Proof.EmbedArray
public import Idealize.ShloMosaic.Lib.StableHlo.Run

@[expose] public section

noncomputable section

namespace Cert.Proof.Entry

open Idealize.ShloMosaic Idealize.ShloMosaic.TcCoe Idealize.SL.Sem Cert.KernelIdeal Cert.KernelIdeal.Gen
open Idealize.ShloMosaic.StableHlo

variable (m : (ℓ : Loc nD τ sig) → Buf (Elt Ideal) ℓ) (ρ : Dev nD → PrngReg) (c : Dev nD)

/-! ## Before the first call -/

/-- The category ids as a column. -/
theorem first_ids : V1 m ρ c main_call0_v4 = shapeCast S4096x1 (m ((c : Thread nD τ).loc main_arg1) : IVec S4096 32) shapeCasts_S4096_S4096x1 := by
  show StableHlo.after hostOps0 (W0 m ρ c) (Proc.devRef .tc main_call0_v4) = _
  simp only [hostOps0, TRef.binary, TRef.nullary, TRef.unary, TRef.reshape, TRef.toBuf, TRef.ofBuf, cast_eq]
  after_results_simp <;> rfl

/-- The state ids with a last axis of extent one. -/
theorem first_states : W1 m ρ c (Proc.devRef .tc main_call0_v5)
    = broadcastInDim S4096x200x1 ![0, 1] bcast_S4096x200_S4096x200x1_0_1 (m ((c : Thread nD τ).loc main_arg0) : IVec S4096x200 32) := by
  show StableHlo.after hostOps0 (W0 m ρ c) (Proc.devRef .tc main_call0_v5) = _
  simp only [hostOps0, TRef.binary, TRef.nullary, TRef.unary, TRef.reshape, TRef.toBuf, TRef.ofBuf, cast_eq]
  after_results_simp <;> rfl

/-- The position rows with a leading axis of extent one. -/
theorem first_pos : W1 m ρ c (Proc.devRef .tc main_call0_v0)
    = broadcastInDim S1x200x128 ![1, 2] bcast_S200x128_S1x200x128_1_2
        (fun i => FloatOps.ofBits (F := Ideal) .f32 (lit0 (S200x128.rowMajor i)) : FVec Ideal S200x128 .f32) := by
  show StableHlo.after hostOps0 (W0 m ρ c) (Proc.devRef .tc main_call0_v0) = _
  simp only [hostOps0, TRef.binary, TRef.nullary, TRef.unary, TRef.reshape, TRef.toBuf, TRef.ofBuf, cast_eq]
  after_results_simp <;> rfl

/-- Scale and shift as the two rows of one array. -/
def scaleShift (g h : FVec Ideal S128 .f32) : FVec Ideal S2x128 .f32 :=
  concatenate S2x128 0 [⟨S1x128, broadcastInDim S1x128 ![1] bcast_S128_S1x128_1 g⟩, ⟨S1x128, broadcastInDim S1x128 ![1] bcast_S128_S1x128_1 h⟩]
    concatenates_S1x128_S1x128_S2x128_d0

theorem first_scale : W1 m ρ c (Proc.devRef .tc main_call0_v3)
    = scaleShift (m ((c : Thread nD τ).loc main_arg4)) (m ((c : Thread nD τ).loc main_arg5)) := by
  show StableHlo.after hostOps0 (W0 m ρ c) (Proc.devRef .tc main_call0_v3) = _
  simp only [hostOps0, TRef.binary, TRef.nullary, TRef.unary, TRef.reshape, TRef.toBuf, TRef.ofBuf, cast_eq]
  after_results_simp <;> rfl

theorem scale_at (g h : FVec Ideal S128 .f32) (l : Fin 128) : scaleShift g h (ix2 0 l) = g (ix1 l) := by
  pointwise [scaleShift]

theorem shift_at (g h : FVec Ideal S128 .f32) (l : Fin 128) : scaleShift g h (ix2 1 l) = h (ix1 l) := by
  pointwise [scaleShift]

/-! ## Before the second call -/

/-- A buffer neither the first call nor the host operation after it writes holds what it held before the first call. -/
theorem kept (b : Ref sig .tc) (h : b ∉ hostOps1_W) (hb : ∀ w : Fin cfg0.W, Pipeline.arrRef spec0 w = b → (cfg0.win w).isOut = false) :
    V3 m ρ c b = W1 m ρ c (Proc.devRef .tc b) :=
  (W3_of m ρ c b h).trans (W2_of m ρ c b hb)

/-- The category rows with a middle axis of extent one. -/
theorem second_rows : V3 m ρ c main_call0_v7 = broadcastInDim S4096x1x128 ![0, 2] bcast_S4096x128_S4096x1x128_0_2
    (W2 m ρ c (Proc.devRef .tc main_call0_v6) : FVec Ideal S4096x128 .f32) := by
  show StableHlo.after hostOps1 (W2 m ρ c) (Proc.devRef .tc main_call0_v7) = _
  simp only [hostOps1, TRef.binary, TRef.nullary, TRef.unary, TRef.reshape, TRef.toBuf, TRef.ofBuf, cast_eq]
  after_results_simp <;> rfl

theorem second_states : V3 m ρ c main_call0_v5
    = broadcastInDim S4096x200x1 ![0, 1] bcast_S4096x200_S4096x200x1_0_1 (m ((c : Thread nD τ).loc main_arg0) : IVec S4096x200 32) :=
  (kept m ρ c _ (by decide) (by decide)).trans (first_states m ρ c)

theorem second_pos : V3 m ρ c main_call0_v0
    = broadcastInDim S1x200x128 ![1, 2] bcast_S200x128_S1x200x128_1_2
        (fun i => FloatOps.ofBits (F := Ideal) .f32 (lit0 (S200x128.rowMajor i)) : FVec Ideal S200x128 .f32) :=
  (kept m ρ c _ (by decide) (by decide)).trans (first_pos m ρ c)

theorem second_scale : V3 m ρ c main_call0_v3
    = scaleShift (m ((c : Thread nD τ).loc main_arg4)) (m ((c : Thread nD τ).loc main_arg5)) :=
  (kept m ρ c _ (by decide) (by decide)).trans (first_scale m ρ c)

theorem second_table : V3 m ρ c main_arg2 = m ((c : Thread nD τ).loc main_arg2) := W3_args m ρ c _ (by decide)

theorem first_table : V1 m ρ c main_arg3 = m ((c : Thread nD τ).loc main_arg3) := W1_args m ρ c _ (by decide)

end Cert.Proof.Entry

end
-- ==== Proof.Spec.lean ====
/-
  The one expression both programs are shown to compute, entry by entry.
-/
module

public import proofs.«01_k».proof.Proof.Algebra

@[expose] public section

noncomputable section

namespace Cert.Proof.Spec

open Idealize.ShloMosaic

variable (s : IVec ⟨2, ![4096, 200]⟩ 32) (c : IVec ⟨1, ![4096]⟩ 32) (hs : ∀ i, (s i).toNat < 6) (hc : ∀ i, (c i).toNat < 170)
  (T2 : FVec Ideal ⟨2, ![6, 128]⟩ .f32) (T3 : FVec Ideal ⟨2, ![170, 128]⟩ .f32) (P : Fin 200 → Fin 128 → EReal)
  (g h : FVec Ideal ⟨1, ![128]⟩ .f32)

/-- The row the layer norm reads at `(b, t)`: the vocabulary row of the id at `(b, t)`, the category row of the id at `b`
    and the position row `t`, added. -/
def row (b : Fin 4096) (t : Fin 200) (k : Fin 128) : EReal :=
  T2 (ix2 ⟨(s (ix2 b t)).toNat, hs _⟩ k) + T3 (ix2 ⟨(c (ix1 b)).toNat, hc _⟩ k) + P t k

/-- The result at `(b, t, l)`: that row's layer norm, scaled and shifted. -/
def entry (b : Fin 4096) (t : Fin 200) (l : Fin 128) : EReal :=
  Algebra.layer (row s c hs hc T2 T3 P b t) (g (ix1 l)) (h (ix1 l)) l

end Cert.Proof.Spec

end
-- ==== Proof.Lits.lean ====
/-
  The positional table is the same in the two programs: each prints the 200 × 128 table of single-precision patterns as a
  function of the row-major position, and the two functions are one.
-/
module

public import proofs.«01_k».proof.KernelIdeal
public import proofs.«01_k».proof.ReferenceIdeal

@[expose] public section

namespace Cert.Proof.Lits

/-- The kernel's table of patterns is the reference's. -/
theorem same : Cert.KernelIdeal.lit0 = Cert.ReferenceIdeal.lit0 := rfl

end Cert.Proof.Lits

end
-- ==== Proof.Rows.lean ====
/-
  Picking whole rows of a table by an array of row numbers, read at one index of the result; with the word facts that say
  a row number inside the table passes through the wrap of negative numbers and the bounds test unchanged.
-/
module

public import Idealize.ShloMosaic.Lib.Pointwise

@[expose] public section

noncomputable section

namespace Cert.Proof.Rows

open Idealize.ShloMosaic

/-- A gather down the rows of an `N × C` table, at result index `j`: when the dimension numbers start on axis 0 alone,
    collapse it with a slice of one row, read the row number at `i` and take the column `c` off `j`, the element is the
    table's at that row number, read signed and clamped to the last row, and that column. -/
theorem gather_row {α : Type} {N C w : Nat} {si t : Shape} (hN : 0 < N) (d : GatherDims ⟨2, ![N, C]⟩ si t)
    (hm : d.startIndexMap = [0]) (hb : d.operandBatchingDims = []) (hc : d.collapsedSliceDims = [0])
    (hs : d.sliceSizes 0 = 1) (x : (⟨2, ![N, C]⟩ : Shape).Idx → α) (idx : IVec si w) (j : t.Idx) (i : si.Idx) (c : Fin C)
    (hi : ∀ k, d.siIdx j k = i) (ho : d.offCoord j 1 = c.val) :
    Host.gather d x idx j = x (ix2 ⟨min (idx i).toInt.toNat (N - 1), by omega⟩ c) := by
  unfold Host.gather
  congr 1
  have nb (a) : a ∉ d.operandBatchingDims := by rw [hb]; exact List.not_mem_nil
  funext a
  refine Fin.ext ?_
  show d.start j idx a + d.batchCoord j a + d.offCoord j a = _
  rw [d.batchCoord_eq_zero _ _ (nb a), Nat.add_zero]
  unfold GatherDims.start
  have h01 : a = (0 : Fin 2) ∨ a = (1 : Fin 2) := by
    match a with
    | ⟨0, _⟩ => exact Or.inl rfl
    | ⟨1, _⟩ => exact Or.inr rfl
  rcases h01 with rfl | rfl
  · rw [dif_pos (show (0 : Fin 2) ∈ d.startIndexMap by rw [hm]; exact List.mem_singleton.mpr rfl), hi,
      d.offCoord_eq_zero _ _ (fun h => ((d.mem_sKept _).mp h).1 (by rw [hc]; exact List.mem_singleton.mpr rfl))]
    rw [hs, Nat.add_zero]
    rfl
  · rw [dif_neg (show (1 : Fin 2) ∉ d.startIndexMap by rw [hm]; exact fun h => absurd (List.mem_singleton.mp h) (by simp)), Nat.zero_add]
    exact ho

/-! ## Words -/

theorem andi_ofBool (a b : Bool) : IntOp.andi (BitVec.ofBool a) (BitVec.ofBool b) = BitVec.ofBool (a && b) := by
  cases a <;> cases b <;> decide

theorem ofBool_eq_one (a : Bool) : BitVec.ofBool a = 1#1 ↔ a = true := by
  cases a <;> decide

/-- A word tested to be at least zero and below 6, both signed, is one of the six row numbers. -/
theorem lt_six {w : BitVec 32} (h : IntOp.andi (IntOp.cmpi .sge w 0#32) (IntOp.cmpi .slt w 6#32) = 1#1) : w.toNat < 6 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h
  omega

/-- The same for the table of 170 rows. -/
theorem lt_cats {w : BitVec 32} (h : IntOp.andi (IntOp.cmpi .sge w 0#32) (IntOp.cmpi .slt w 170#32) = 1#1) :
    w.toNat < 170 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h
  omega

/-- A word below a table of fewer than `2 ^ 31` rows is not negative: the wrap `w < 0 ? w + n : w` is `w`. -/
theorem wrap {w : BitVec 32} (n : BitVec 32) (h : w.toNat < 2 ^ 31) :
    Scalar.select (IntOp.cmpi .slt w 0#32) (IntOp.addi w n) w = w := by
  have e : IntOp.cmpi .slt w 0#32 = 0#1 := by
    have : (w.slt 0#32) = false := by
      rw [BitVec.slt_eq_decide, decide_eq_false_iff_not]
      simp only [BitVec.toInt_eq_toNat_cond, BitVec.toNat_ofNat, Nat.reducePow, Nat.reduceMod]
      omega
    simp only [IntOp.cmpi, this]
    decide
  rw [e]; rfl

/-- A word at most `n` passes the bounds test `0 ≤ w ≤ n`. -/
theorem inside {w n : BitVec 32} (h : w.toNat ≤ n.toNat) (hn : n.toNat < 2 ^ 31) :
    IntOp.andi (IntOp.cmpi .sge w 0#32) (IntOp.cmpi .sle w n) = 1#1 := by
  simp only [IntOp.cmpi, andi_ofBool, ofBool_eq_one, Bool.and_eq_true, BitVec.sle_eq_decide,
    decide_eq_true_eq, BitVec.toInt_eq_toNat_cond, BitVec.toNat_ofNat, Nat.reducePow, Nat.reduceMod]
  omega

/-- A word below a table's `N` rows, read signed and clamped to the last row, is itself. -/
theorem clamp {w : BitVec 32} {N : Nat} (h : w.toNat < N) (hN : N ≤ 2 ^ 31) : min w.toInt.toNat (N - 1) = w.toNat := by
  have : w.toInt = w.toNat := by
    simp only [BitVec.toInt_eq_toNat_cond, Nat.reducePow]; omega
  rw [this, Int.toNat_natCast]; omega

/-- A select whose condition is an all-ones mask spread to the result's shape is its first operand. -/
theorem pick_true {α : Type} {s t : Shape} {dims : Fin s.rank → Fin t.rank} (hb : s.BroadcastsInDim t dims) (m : IVec s 1)
    (hm : ∀ j, m j = 1#1) (x y : t.Idx → α) (i : t.Idx) : select (broadcastInDim t dims hb m) x y i = x i := by
  show Scalar.select (m _) (x i) (y i) = x i
  rw [hm]; rfl

end Cert.Proof.Rows

end
-- ==== Proof.RefTake.lean ====
/-
  The reference's two look-ups by row number, read at one index: with every row number inside its table, the wrap of
  negative numbers, the bounds mask, the fill value and the clamp all drop out and the look-up is the table's row.
-/
module

public import proofs.«01_k».proof.Proof.Gen.ReferenceIdeal
public import proofs.«01_k».proof.Proof.Rows
public import Idealize.ShloMosaic.Lib.ReduceAll

@[expose] public section

noncomputable section

namespace Cert.Proof.RefTake

open Idealize.ShloMosaic Cert.ReferenceIdeal Cert.ReferenceIdeal.Gen

/-! ## The vocabulary look-up -/

/-- The vocabulary ids as the look-up's start indices: negative ids wrapped, one axis of length 1 added. -/
def ids (s : IVec S4096x200 32) : IVec S4096x200x1 32 :=
  broadcastInDim S4096x200x1 ![0, 1] bcast_S4096x200_S4096x200x1_0_1
    (select (cmpi .slt s (broadcastInDim S4096x200 ![] bcast_S_S4096x200 (constantI S_ 32 0#32)))
      (addi s (broadcastInDim S4096x200 ![] bcast_S_S4096x200 (constantI S_ 32 6#32))) s)

/-- The vocabulary look-up as the reference composes it. -/
def vocab (s : IVec S4096x200 32) (T : FVec Ideal S6x128 .f32) : FVec Ideal S4096x200x128 .f32 :=
  select (broadcastInDim S4096x200x128 ![0, 1] bcast_S4096x200_S4096x200x128_0_1
      (Host.reduce IntOp.andi
        (andi (cmpi .sge (ids s) (broadcastInDim S4096x200x1 ![] bcast_S_S4096x200x1 (constantI S_ 32 0#32)))
          (cmpi .sle (ids s) (broadcastInDim S4096x200x1 ![0, 1, 2] bcast_S1x1x1_S4096x200x1_0_1_2
            (broadcastInDim S1x1x1 ![2] bcast_S1_S1x1x1_2 (constantI S1 32 5#32)))))
        (constantI S_ 1 1#1) reducesTo_S4096x200x1_S4096x200_d2 h_S_))
    (Host.gather gather_S6x128_S4096x200x1_S4096x200x128_2_0_n_n_0_2_1128 T (ids s))
    (broadcastInDim S4096x200x128 ![] bcast_S_S4096x200x128 (constant S_ .f32 0x7FC00000#32))

/-- A start index is the id itself when every id is below 6. -/
theorem ids_at {s : IVec S4096x200 32} (h : ∀ i, (s i).toNat < 6) (i : S4096x200x1.Idx) : ids s i = s (ix2 (i 0) (i 1)) := by
  pointwise [ids]
  exact Rows.wrap _ (lt_trans (h _) (by decide))

/-- The vocabulary look-up at `(b, t, l)` is the table's row of the id at `(b, t)`, at column `l`. -/
theorem vocab_at {s : IVec S4096x200 32} (h : ∀ i, (s i).toNat < 6) (T : FVec Ideal S6x128 .f32) (b : Fin 4096) (t : Fin 200)
    (l : Fin 128) : vocab s T (ix3 b t l) = T (ix2 ⟨(s (ix2 b t)).toNat, h _⟩ l) := by
  unfold vocab
  refine (Rows.pick_true _ _ (fun j => ?_) _ _ _).trans ?_
  · refine Host.reduce_andi_one _ _ _ _ j rfl fun i => ?_
    have := h (ix2 (i 0) (i 1))
    pointwise
    rw [ids_at h]
    exact Rows.inside (Nat.le_of_lt_succ this) (by decide)
  refine (Rows.gather_row (by decide) gather_S6x128_S4096x200x1_S4096x200x128_2_0_n_n_0_2_1128 rfl rfl rfl rfl T (ids s)
    (ix3 b t l) (ix3 b t 0) l (fun k => ?_) rfl).trans ?_
  · funext a
    match a with
    | ⟨0, _⟩ => rfl
    | ⟨1, _⟩ => rfl
    | ⟨2, _⟩ => exact Subsingleton.elim (α := Fin 1) _ _
  · congr 2
    refine Fin.ext ?_
    show min (ids _ _).toInt.toNat _ = _
    rw [ids_at h]
    exact Rows.clamp (h _) (by decide)

/-! ## The category look-up -/

/-- The category ids as the look-up's start indices: negative ids wrapped, one axis of length 1 added. -/
def catIds (c : IVec S4096 32) : IVec S4096x1 32 :=
  broadcastInDim S4096x1 ![0] bcast_S4096_S4096x1_0
    (select (cmpi .slt c (broadcastInDim S4096 ![] bcast_S_S4096 (constantI S_ 32 0#32)))
      (addi c (broadcastInDim S4096 ![] bcast_S_S4096 (constantI S_ 32 170#32))) c)

/-- The category look-up as the reference composes it. -/
def cat (c : IVec S4096 32) (T : FVec Ideal S170x128 .f32) : FVec Ideal S4096x128 .f32 :=
  select (broadcastInDim S4096x128 ![0] bcast_S4096_S4096x128_0
      (Host.reduce IntOp.andi
        (andi (cmpi .sge (catIds c) (broadcastInDim S4096x1 ![] bcast_S_S4096x1 (constantI S_ 32 0#32)))
          (cmpi .sle (catIds c) (broadcastInDim S4096x1 ![0, 1] bcast_S1x1_S4096x1_0_1
            (broadcastInDim S1x1 ![1] bcast_S1_S1x1_1 (constantI S1 32 169#32)))))
        (constantI S_ 1 1#1) reducesTo_S4096x1_S4096_d1 h_S_))
    (Host.gather gather_S170x128_S4096x1_S4096x128_1_0_n_n_0_1_1128 T (catIds c))
    (broadcastInDim S4096x128 ![] bcast_S_S4096x128 (constant S_ .f32 0x7FC00000#32))

/-- A start index is the category id itself when every id is below 170. -/
theorem catIds_at {c : IVec S4096 32} (h : ∀ i, (c i).toNat < 170) (i : S4096x1.Idx) : catIds c i = c (ix1 (i 0)) := by
  pointwise [catIds]
  exact Rows.wrap _ (lt_trans (h _) (by decide))

/-- The category look-up at `(b, l)` is the table's row of the id at `b`, at column `l`. -/
theorem cat_at {c : IVec S4096 32} (h : ∀ i, (c i).toNat < 170) (T : FVec Ideal S170x128 .f32) (b : Fin 4096) (l : Fin 128) :
    cat c T (ix2 b l) = T (ix2 ⟨(c (ix1 b)).toNat, h _⟩ l) := by
  unfold cat
  refine (Rows.pick_true _ _ (fun j => ?_) _ _ _).trans ?_
  · refine Host.reduce_andi_one _ _ _ _ j rfl fun i => ?_
    have := h (ix1 (i 0))
    pointwise
    rw [catIds_at h]
    exact Rows.inside (Nat.le_of_lt_succ this) (by decide)
  refine (Rows.gather_row (by decide) gather_S170x128_S4096x1_S4096x128_1_0_n_n_0_1_1128 rfl rfl rfl rfl T (catIds c)
    (ix2 b l) (ix2 b 0) l (fun k => ?_) rfl).trans ?_
  · funext a
    match a with
    | ⟨0, _⟩ => rfl
    | ⟨1, _⟩ => exact Subsingleton.elim (α := Fin 1) _ _
  · congr 2
    refine Fin.ext ?_
    show min (catIds _ _).toInt.toNat _ = _
    rw [catIds_at h]
    exact Rows.clamp (h _) (by decide)

end Cert.Proof.RefTake

end
-- ==== Proof.RefRead.lean ====
/-
  The reference's result at one index: the layer norm, over the 128 columns, of the vocabulary row plus the category row
  plus the position row.
-/
module

public import proofs.«01_k».proof.Proof.Gen.ReferenceIdeal.Run
public import proofs.«01_k».proof.Proof.Spec
public import proofs.«01_k».proof.Proof.RefTake

@[expose] public section

noncomputable section

namespace Cert.Proof.RefRead

open Idealize.ShloMosaic Idealize.ShloMosaic.TcCoe Idealize.SL.Sem Cert.ReferenceIdeal Cert.ReferenceIdeal.Gen

/-- The position table's entry at `(t, l)`. -/
def pos (t : Fin 200) (l : Fin 128) : EReal := FloatOps.ofBits (F := Ideal) .f32 (lit0 (S200x128.rowMajor (ix2 t l)))

/-- The sum the layer norm reads: the two look-ups and the positions, each spread to the result's shape. -/
def total (v : FVec Ideal S4096x200x128 .f32) (c : FVec Ideal S4096x128 .f32) : FVec Ideal S4096x200x128 .f32 :=
  addf (addf v (broadcastInDim S4096x200x128 ![0, 1, 2] bcast_S4096x1x128_S4096x200x128_0_1_2
      (broadcastInDim S4096x1x128 ![0, 2] bcast_S4096x128_S4096x1x128_0_2 c)))
    (broadcastInDim S4096x200x128 ![0, 1, 2] bcast_S1x200x128_S4096x200x128_0_1_2
      (broadcastInDim S1x200x128 ![1, 2] bcast_S200x128_S1x200x128_1_2
        (fun i => FloatOps.ofBits .f32 (lit0 (S200x128.rowMajor i)))))

/-- The mean over the last axis, kept as an axis of length 1. -/
def avg (x : FVec Ideal S4096x200x128 .f32) : FVec Ideal S4096x200x1 .f32 :=
  Host.divf (broadcastInDim S4096x200x1 ![0, 1] bcast_S4096x200_S4096x200x1_0_1
      (Host.reduceAdd x (constant S_ .f32 0x00000000#32) reducesTo_S4096x200x128_S4096x200_d2 h_S_))
    (broadcastInDim S4096x200x1 ![] bcast_S_S4096x200x1 (constant S_ .f32 0x43000000#32))

/-- What is left of `x` once its mean is taken away. -/
def dev (x : FVec Ideal S4096x200x128 .f32) : FVec Ideal S4096x200x128 .f32 :=
  subf x (broadcastInDim S4096x200x128 ![0, 1, 2] bcast_S4096x200x1_S4096x200x128_0_1_2 (avg x))

/-- The reference's layer norm, as it composes it. -/
def norm (x : FVec Ideal S4096x200x128 .f32) (g b : FVec Ideal S128 .f32) : FVec Ideal S4096x200x128 .f32 :=
  addf (mulf (Host.divf (dev x) (broadcastInDim S4096x200x128 ![0, 1, 2] bcast_S4096x200x1_S4096x200x128_0_1_2
      (Host.sqrt (addf (avg (mulf (dev x) (dev x)))
        (broadcastInDim S4096x200x1 ![] bcast_S_S4096x200x1 (constant S_ .f32 0x2B8CBCCC#32))))))
      (broadcastInDim S4096x200x128 ![0, 1, 2] bcast_S1x1x128_S4096x200x128_0_1_2
        (broadcastInDim S1x1x128 ![2] bcast_S128_S1x1x128_2 g)))
    (broadcastInDim S4096x200x128 ![0, 1, 2] bcast_S1x1x128_S4096x200x128_0_1_2
      (broadcastInDim S1x1x128 ![2] bcast_S128_S1x1x128_2 b))

/-- The sum at `(b, t, l)`. -/
theorem total_at (v : FVec Ideal S4096x200x128 .f32) (c : FVec Ideal S4096x128 .f32) (b : Fin 4096) (t : Fin 200) (l : Fin 128) :
    total v c (ix3 b t l) = v (ix3 b t l) + c (ix2 b l) + pos t l := by
  pointwise [total]
  rfl

/-- The mean at `(b, t)`. -/
theorem avg_at (x : FVec Ideal S4096x200x128 .f32) (b : Fin 4096) (t : Fin 200) (z : Fin 1) :
    avg x (ix3 b t z) = Algebra.mean fun k : Fin 128 => x (ix3 b t k) := by
  pointwise [avg, Algebra.mean]

/-- The deviation at `(b, t, l)`. -/
theorem dev_at (x : FVec Ideal S4096x200x128 .f32) (b : Fin 4096) (t : Fin 200) (l : Fin 128) :
    dev x (ix3 b t l) = x (ix3 b t l) - Algebra.mean fun k : Fin 128 => x (ix3 b t k) := by
  pointwise [dev]
  rw [← avg_at x b t 0]

/-- The layer norm at `(b, t, l)`, in the form shared with the kernel. -/
theorem norm_at (x : FVec Ideal S4096x200x128 .f32) (g h : FVec Ideal S128 .f32) (b : Fin 4096) (t : Fin 200) (l : Fin 128) :
    norm x g h (ix3 b t l) = Algebra.layer (fun k : Fin 128 => x (ix3 b t k)) (g (ix1 l)) (h (ix1 l)) l := by
  rw [← Algebra.layer_eq_div]
  pointwise [norm]
  have e : (Algebra.mean fun k : Fin 128 => mulf (dev x) (dev x) (ix3 b t k)) + Ideal.ofBits .f32 0x2B8CBCCC#32
      = Algebra.spread fun k : Fin 128 => x (ix3 b t k) := by
    unfold Algebra.spread
    rw [Algebra.mean]
    pointwise [dev_at]
  rw [dev_at, avg_at, e]

/-- The reference's result is the layer norm of the sum, in the shapes above. -/
theorem res_eq (m : (ℓ : Loc nD τ sig) → Buf (Elt Ideal) ℓ) (c : Dev nD) :
    Value.res_main_v31 m c = norm (total
        (RefTake.vocab (m ((c.tc : Thread nD τ).loc main_arg0)) (m ((c.tc : Thread nD τ).loc main_arg2)))
        (RefTake.cat (m ((c.tc : Thread nD τ).loc main_arg1)) (m ((c.tc : Thread nD τ).loc main_arg3))))
      (m ((c.tc : Thread nD τ).loc main_arg4)) (m ((c.tc : Thread nD τ).loc main_arg5)) := by
  unfold Value.res_main_v31
  rfl

/-- The reference's result at `(b, t, l)`, when every id is in its table: the layer norm of the vocabulary row of the id
    at `(b, t)`, plus the category row of the id at `b`, plus the position row `t`. -/
theorem result_at (m : (ℓ : Loc nD τ sig) → Buf (Elt Ideal) ℓ) (c : Dev nD)
    (hs : ∀ i, ((m ((c.tc : Thread nD τ).loc main_arg0) : IVec S4096x200 32) i).toNat < 6)
    (hc : ∀ i, ((m ((c.tc : Thread nD τ).loc main_arg1) : IVec S4096 32) i).toNat < 170)
    (b : Fin 4096) (t : Fin 200) (l : Fin 128) :
    Value.res_main_v31 m c (ix3 b t l)
      = Spec.entry (m ((c.tc : Thread nD τ).loc main_arg0)) (m ((c.tc : Thread nD τ).loc main_arg1)) hs hc
          (m ((c.tc : Thread nD τ).loc main_arg2)) (m ((c.tc : Thread nD τ).loc main_arg3)) pos
          (m ((c.tc : Thread nD τ).loc main_arg4)) (m ((c.tc : Thread nD τ).loc main_arg5)) b t l := by
  rw [res_eq, norm_at]
  unfold Spec.entry Spec.row
  simp only [total_at, RefTake.vocab_at hs, RefTake.cat_at hc]

end Cert.Proof.RefRead

end
-- ==== Proof.KernelValue.lean ====
/-
  The kernel's result, entry by entry, of its six arguments: the array the second call leaves, with every operand read back
  to the arguments.
-/
module

public import proofs.«01_k».proof.Proof.Entry
public import proofs.«01_k».proof.Proof.Spec
public import proofs.«01_k».proof.Proof.Lits
public import proofs.«01_k».proof.Proof.RefRead

@[expose] public section

noncomputable section

namespace Cert.Proof.KernelValue

open Idealize.ShloMosaic Idealize.ShloMosaic.TcCoe Idealize.SL.Sem Cert.KernelIdeal Cert.KernelIdeal.Gen

/-- The second call's entry is the common expression, when its operands hold the arguments' rows: only the order of the
    three rows' sum differs. -/
theorem entry_eq {ids : IVec S4096x200x1 32} (hw : ∀ i, (ids i).toNat < 6) {cats : FVec Ideal S4096x1x128 .f32}
    {pos : FVec Ideal S1x200x128 .f32} {gb : FVec Ideal S2x128 .f32} {s : IVec S4096x200 32} {c : IVec S4096 32}
    (hs : ∀ i, (s i).toNat < 6) (hc : ∀ i, (c i).toNat < 170) (T2 : FVec Ideal S6x128 .f32) {T3 : FVec Ideal S170x128 .f32}
    {P : Fin 200 → Fin 128 → EReal} {g h : FVec Ideal S128 .f32}
    (eIds : ∀ b t, ids (ix3 b t 0) = s (ix2 b t))
    (eCats : ∀ b k, cats (ix3 b 0 k) = T3 (ix2 ⟨(c (ix1 b)).toNat, hc _⟩ k))
    (ePos : ∀ t k, pos (ix3 0 t k) = P t k) (eScale : ∀ l, gb (ix2 0 l) = g (ix1 l)) (eShift : ∀ l, gb (ix2 1 l) = h (ix1 l))
    (b : Fin 4096) (t : Fin 200) (l : Fin 128) :
    EmbedArray.entry ids hw cats T2 pos gb b t l = Spec.entry s c hs hc T2 T3 P g h b t l := by
  unfold EmbedArray.entry Spec.entry
  rw [eScale, eShift]
  refine congrArg (fun x => Algebra.layer x (g (ix1 l)) (h (ix1 l)) l) (funext fun k => ?_)
  unfold Spec.row
  rw [eCats, ePos]
  simp only [eIds]
  rw [add_comm, ← add_assoc]

/-! ## Where the layout changes read -/

theorem states_at (s : IVec S4096x200 32) (b : Fin 4096) (t : Fin 200) (z : Fin 1) :
    broadcastInDim S4096x200x1 ![0, 1] bcast_S4096x200_S4096x200x1_0_1 s (ix3 b t z) = s (ix2 b t) := by
  pointwise

theorem pos_at (p : FVec Ideal S200x128 .f32) (z : Fin 1) (t : Fin 200) (k : Fin 128) :
    broadcastInDim S1x200x128 ![1, 2] bcast_S200x128_S1x200x128_1_2 p (ix3 z t k) = p (ix2 t k) := by
  pointwise

theorem mid_at (r : FVec Ideal S4096x128 .f32) (b : Fin 4096) (z : Fin 1) (k : Fin 128) :
    broadcastInDim S4096x1x128 ![0, 2] bcast_S4096x128_S4096x1x128_0_2 r (ix3 b z k) = r (ix2 b k) := by
  pointwise

theorem column_at (v : IVec S4096 32) (b : Fin 4096) (z : Fin 1) :
    shapeCast S4096x1 v shapeCasts_S4096_S4096x1 (ix2 b z) = v (ix1 b) := by
  pointwise

/-! ## The two calls' arrays -/

variable (m : (ℓ : Loc nD τ sig) → Buf (Elt Ideal) ℓ) (ρ : Dev nD → PrngReg) (c : Dev nD)
  (hs : ∀ i, ((m ((c.tc : Thread nD τ).loc main_arg0) : IVec S4096x200 32) i).toNat < 6)
  (hc : ∀ i, ((m ((c.tc : Thread nD τ).loc main_arg1) : IVec S4096 32) i).toNat < 170)

/-- The rows the first call leaves: the category table's row of each id. -/
theorem cats_at (b : Fin 4096) (k : Fin 128) :
    (W2 m ρ c (Proc.devRef .tc main_call0_v6) : FVec Ideal S4096x128 .f32) (ix2 b k)
      = (m ((c.tc : Thread nD τ).loc main_arg3) : FVec Ideal S170x128 .f32)
          (ix2 ⟨((m ((c.tc : Thread nD τ).loc main_arg1) : IVec S4096 32) (ix1 b)).toNat, hc _⟩ k) := by
  have e : ∀ b z, (V1 m ρ c main_call0_v4 : IVec S4096x1 32) (ix2 b z) = (m ((c.tc : Thread nD τ).loc main_arg1) : IVec S4096 32) (ix1 b) :=
    fun b z => (congrFun (Entry.first_ids m ρ c) _).trans (column_at _ b z)
  have hw : ∀ i, ((V1 m ρ c main_call0_v4 : IVec S4096x1 32) i).toNat < 170 := fun i => by
    obtain ⟨x, z, rfl⟩ : ∃ (x : Fin 4096) (z : Fin 1), i = ix2 x z := ⟨_, _, (ix2_eta (n0 := 4096) (n1 := 1) i).symm⟩
    rw [e]
    exact hc _
  refine (congrFun ((W2_arr m ρ c 2).trans (CatArray.array_at (V1 m ρ) c hw)) (ix2 b k)).trans ?_
  unfold CatArray.rows
  refine (congrFun (Entry.first_table m ρ c) _).trans (congrArg _ ?_)
  exact congrArg (fun x => ix2 x k) (Fin.ext (congrArg BitVec.toNat (e b 0)))

/-- The kernel's result at `(b, t, l)`, when every id is in its table. -/
theorem result_at (b : Fin 4096) (t : Fin 200) (l : Fin 128) :
    ((dat1 (V3 m ρ) c).arrAt 5 cfg1.N : FVec Ideal S4096x200x128 .f32) (ix3 b t l)
      = Spec.entry (m ((c.tc : Thread nD τ).loc main_arg0)) (m ((c.tc : Thread nD τ).loc main_arg1)) hs hc
          (m ((c.tc : Thread nD τ).loc main_arg2)) (m ((c.tc : Thread nD τ).loc main_arg3)) RefRead.pos
          (m ((c.tc : Thread nD τ).loc main_arg4)) (m ((c.tc : Thread nD τ).loc main_arg5)) b t l := by
  have e : ∀ b t z, (V3 m ρ c main_call0_v5 : IVec S4096x200x1 32) (ix3 b t z)
      = (m ((c.tc : Thread nD τ).loc main_arg0) : IVec S4096x200 32) (ix2 b t) :=
    fun b t z => (congrFun (Entry.second_states m ρ c) _).trans (states_at _ b t z)
  have hw : ∀ i, ((V3 m ρ c main_call0_v5 : IVec S4096x200x1 32) i).toNat < 6 := fun i => by
    obtain ⟨x, y, z, rfl⟩ : ∃ (x : Fin 4096) (y : Fin 200) (z : Fin 1), i = ix3 x y z :=
      ⟨_, _, _, (ix3_eta (n0 := 4096) (n1 := 200) (n2 := 1) i).symm⟩
    rw [e]
    exact hs _
  refine (congrFun (EmbedArray.array_eq (V3 m ρ) c hw) (ix3 b t l)).trans ?_
  refine Eq.trans (b := EmbedArray.entry (V3 m ρ c main_call0_v5) hw (V3 m ρ c main_call0_v7)
      (m ((c.tc : Thread nD τ).loc main_arg2)) (V3 m ρ c main_call0_v0) (V3 m ρ c main_call0_v3) b t l)
    (congrArg (fun T => EmbedArray.entry _ hw _ T _ _ b t l) (Entry.second_table m ρ c)) ?_
  refine entry_eq hw hs hc _ (fun b t => e b t 0)
    (fun b k => ((congrFun (Entry.second_rows m ρ c) _).trans (mid_at _ b 0 k)).trans (cats_at m ρ c hc b k))
    (fun t k => ((congrFun (Entry.second_pos m ρ c) _).trans (pos_at _ 0 t k)).trans ?_)
    (fun l => (congrFun (Entry.second_scale m ρ c) _).trans (Entry.scale_at _ _ l))
    (fun l => (congrFun (Entry.second_scale m ρ c) _).trans (Entry.shift_at _ _ l)) b t l
  unfold RefRead.pos
  rw [← Lits.same]

end Cert.Proof.KernelValue

end
-- ==== Proof.Range.lean ====
/-
  What the precondition gives: every vocabulary id is one of the six rows and every category id one of the 170 rows.
-/
module

public import proofs.«01_k».proof.Proof.Gen.Pre_ids_in_range
public import proofs.«01_k».proof.Proof.Rows
public import Idealize.ShloMosaic.Lib.ReduceAll

@[expose] public section

noncomputable section

namespace Cert.Proof.Range

open Idealize.ShloMosaic Cert.Pre_ids_in_range

instance : Subsingleton S_.Idx := ⟨fun a b => funext fun k => k.elim0⟩

variable {s : IVec S4096x200 32} {c : IVec S4096 32} {x2 : FVec Ideal S6x128 .f32} {x3 : FVec Ideal S170x128 .f32}
  {x4 x5 : FVec Ideal S128 .f32}

/-- The two halves of the precondition, at its one index. -/
theorem halves (h : fn (F := Ideal) s c x2 x3 x4 x5 = fun _ => 1#1) :
    (∀ i, (s i).toNat < 6) ∧ ∀ i, (c i).toNat < 170 := by
  have e := congrFun h (fun k => k.elim0)
  obtain ⟨e1, e2⟩ := IntOp.andi_eq_one.1 e
  exact ⟨fun i => Rows.lt_six (Host.reduce_andi_all _ _ _ _ _ e1 i), fun i => Rows.lt_cats (Host.reduce_andi_all _ _ _ _ _ e2 i)⟩

end Cert.Proof.Range

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ids_in_range
public import proofs.«01_k».proof.Proof.KernelRun
public import proofs.«01_k».proof.Proof.KernelValue
public import proofs.«01_k».proof.Proof.Range
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run, with its counters: its program declares none, so all end at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4)
          = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5)
          = m ((c.tc : Thread Cert.ReferenceIdeal.nD Cert.ReferenceIdeal.τ).loc Cert.ReferenceIdeal.main_arg5))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Kernel and reference end with equal results over the extended reals, when every id is in its table: both arrays are
    `Spec.entry` of the arguments, entry by entry. -/
theorem same_results : Cert.algebraic_KernelIdeal_ReferenceIdeal_pre_ids_in_range := by
  intro m g m' g' hpre hagree
  refine ⟨fun c => (Cert.KernelIdeal.Gen.dat1 (Cert.KernelIdeal.Gen.V3 m g) c).arrAt 5 Cert.KernelIdeal.cfg1.N,
    KernelRun.run m g, (θ_run Cert.ReferenceIdeal.defs _ _).mono (fun r h c => ⟨(h c).1.trans ?_, (h c).2⟩)
      (Cert.ReferenceIdeal.Value.run (F := Ideal) m' g')⟩
  obtain ⟨hs, hc⟩ := Range.halves (hpre c)
  obtain ⟨e0, e1, e2, e3, e4, e5⟩ := hagree c
  have hs' : ∀ i, ((m' ((c.tc : Thread Cert.ReferenceIdeal.nD Cert.ReferenceIdeal.τ).loc Cert.ReferenceIdeal.main_arg0) :
      IVec Cert.ReferenceIdeal.S4096x200 32) i).toNat < 6 := fun i => by rw [e0]; exact hs i
  have hc' : ∀ i, ((m' ((c.tc : Thread Cert.ReferenceIdeal.nD Cert.ReferenceIdeal.τ).loc Cert.ReferenceIdeal.main_arg1) :
      IVec Cert.ReferenceIdeal.S4096 32) i).toNat < 170 := fun i => by rw [e1]; exact hc i
  funext i
  obtain ⟨b, t, l, rfl⟩ : ∃ (b : Fin 4096) (t : Fin 200) (l : Fin 128), i = ix3 b t l :=
    ⟨_, _, _, (ix3_eta (n0 := 4096) (n1 := 200) (n2 := 128) i).symm⟩
  refine (RefRead.result_at m' c hs' hc' b t l).trans (Eq.trans ?_ (KernelValue.result_at m g c hs hc b t l).symm)
  rw [e2, e3, e4, e5]
  unfold Spec.entry Spec.row
  simp only [e0, e1]

theorem claim : Cert.Claim :=
  ⟨Cert.Kernel.Gen.facts, Cert.KernelIdeal.Gen.facts, Cert.ReferenceIdeal.Gen.facts, Cert.Pre_ids_in_range.Gen.facts,
    fun m g _ => Cert.Kernel.Gen.frame m g, fun m g _ => Cert.KernelIdeal.Gen.frame m g,
    fun m g _ => Cert.KernelIdeal.Gen.frame m g, fun m g _ => reference_frame m g, fun m g _ => reference_frame m g,
    trivial, same_results⟩

end Cert.Proof

end
